-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S16384x2100 : Shape := ⟨2, ![16384, 2100]⟩
abbrev S16384x100 : Shape := ⟨2, ![16384, 100]⟩
abbrev S_ : Shape := ⟨0, ![]⟩

class Facts : Prop where
  bcast_S_S16384x100 : S_.BroadcastsInDim S16384x100 (![] : Fin 0 → Fin S16384x100.rank)
  reducesTo_S16384x100_S_d0_1 : S16384x100.ReducesTo [0, 1] S_
  h_S_ : 0 < S_.numel

variable [Facts]

def fn {F : FTy → Type} [FloatOps F] (main_arg0 : FVec F S16384x2100 .f32) (main_arg1 : IVec S16384x100 32) : IVec S_ 1 :=
  let main_c : IVec S_ 32 := constantI S_ 32 0#32
  let main_v0 : IVec S16384x100 32 := broadcastInDim S16384x100 ![] bcast_S_S16384x100 main_c
  let main_v1 : IVec S16384x100 1 := cmpi .sge main_arg1 main_v0
  let main_c_0 : IVec S_ 1 := constantI S_ 1 1#1
  let main_v2 : IVec S_ 1 := (fun x v => Host.reduce IntOp.andi x v reducesTo_S16384x100_S_d0_1 h_S_) main_v1 main_c_0
  main_v2
-- ==== Kernel.lean ====
abbrev S16384x2100 : Shape := ⟨2, ![16384, 2100]⟩
abbrev S16384x100 : Shape := ⟨2, ![16384, 100]⟩
abbrev S2100 : Shape := ⟨1, ![2100]⟩
abbrev S_ : Shape := ⟨0, ![]⟩
abbrev S1x2100 : Shape := ⟨2, ![1, 2100]⟩
abbrev S100 : Shape := ⟨1, ![100]⟩
abbrev S100x1 : Shape := ⟨2, ![100, 1]⟩
abbrev S100x2100 : Shape := ⟨2, ![100, 2100]⟩
abbrev S2100x1 : Shape := ⟨2, ![2100, 1]⟩
abbrev S1x100 : Shape := ⟨2, ![1, 100]⟩
abbrev S2100x100 : Shape := ⟨2, ![2100, 100]⟩
abbrev S1x1 : Shape := ⟨2, ![1, 1]⟩
abbrev S512x2100 : Shape := ⟨2, ![512, 2100]⟩
abbrev S512x100 : Shape := ⟨2, ![512, 100]⟩
abbrev S1x512x100 : Shape := ⟨3, ![1, 512, 100]⟩
abbrev S1 : Shape := ⟨1, ![1]⟩
abbrev S1x1x1 : Shape := ⟨3, ![1, 1, 1]⟩

abbrev nBuf : Space → Nat
  | .hbm => 68
  | .vmem => 12
  | .smem => 0
  | _ => 0

abbrev bufTy : (tb : Table) → Fin (tcTables nBuf tb) → BufTy
  | .hbm, ⟨0, _⟩ => ⟨S16384x2100, .f32⟩
  | .hbm, ⟨1, _⟩ => ⟨S16384x100, .i32⟩
  | .hbm, ⟨2, _⟩ => ⟨S2100, .i32⟩
  | .hbm, ⟨3, _⟩ => ⟨S_, .i32⟩
  | .hbm, ⟨4, _⟩ => ⟨S_, .i32⟩
  | .hbm, ⟨5, _⟩ => ⟨S2100, .i32⟩
  | .hbm, ⟨6, _⟩ => ⟨S2100, .i32⟩
  | .hbm, ⟨7, _⟩ => ⟨S2100, .i32⟩
  | .hbm, ⟨8, _⟩ => ⟨S_, .i32⟩
  | .hbm, ⟨9, _⟩ => ⟨S2100, .i32⟩
  | .hbm, ⟨10, _⟩ => ⟨S2100, .i1⟩
  | .hbm, ⟨11, _⟩ => ⟨S2100, .i32⟩
  | .hbm, ⟨12, _⟩ => ⟨S2100, .i32⟩
  | .hbm, ⟨13, _⟩ => ⟨S_, .i32⟩
  | .hbm, ⟨14, _⟩ => ⟨S2100, .i32⟩
  | .hbm, ⟨15, _⟩ => ⟨S2100, .i1⟩
  | .hbm, ⟨16, _⟩ => ⟨S2100, .i1⟩
  | .hbm, ⟨17, _⟩ => ⟨S_, .i32⟩
  | .hbm, ⟨18, _⟩ => ⟨S2100, .i32⟩
  | .hbm, ⟨19, _⟩ => ⟨S2100, .i32⟩
  | .hbm, ⟨20, _⟩ => ⟨S2100, .i32⟩
  | .hbm, ⟨21, _⟩ => ⟨S2100, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S2100, .i32⟩
  | .hbm, ⟨29, _⟩ => ⟨S2100, .i32⟩
  | .hbm, ⟨30, _⟩ => ⟨S_, .i32⟩
  | .hbm, ⟨31, _⟩ => ⟨S2100, .i32⟩
  | .hbm, ⟨32, _⟩ => ⟨S2100, .i1⟩
  | .hbm, ⟨33, _⟩ => ⟨S_, .i32⟩
  | .hbm, ⟨34, _⟩ => ⟨S2100, .i32⟩
  | .hbm, ⟨35, _⟩ => ⟨S2100, .i1⟩
  | .hbm, ⟨36, _⟩ => ⟨S_, .i32⟩
  | .hbm, ⟨37, _⟩ => ⟨S_, .i1⟩
  | .hbm, ⟨38, _⟩ => ⟨S2100, .i1⟩
  | .hbm, ⟨39, _⟩ => ⟨S2100, .i1⟩
  | .hbm, ⟨40, _⟩ => ⟨S2100, .i1⟩
  | .hbm, ⟨41, _⟩ => ⟨S2100, .i32⟩
  | .hbm, ⟨42, _⟩ => ⟨S2100, .i32⟩
  | .hbm, ⟨43, _⟩ => ⟨S2100, .i32⟩
  | .hbm, ⟨44, _⟩ => ⟨S1x2100, .i32⟩
  | .hbm, ⟨45, _⟩ => ⟨S100, .i32⟩
  | .hbm, ⟨46, _⟩ => ⟨S100x1, .i32⟩
  | .hbm, ⟨47, _⟩ => ⟨S100x2100, .i32⟩
  | .hbm, ⟨48, _⟩ => ⟨S100x2100, .i32⟩
  | .hbm, ⟨49, _⟩ => ⟨S100x2100, .i1⟩
  | .hbm, ⟨50, _⟩ => ⟨S100x2100, .f32⟩
  | .hbm, ⟨51, _⟩ => ⟨S1x2100, .i32⟩
  | .hbm, ⟨52, _⟩ => ⟨S1x2100, .f32⟩
  | .hbm, ⟨53, _⟩ => ⟨S2100x1, .i32⟩
  | .hbm, ⟨54, _⟩ => ⟨S100, .i32⟩
  | .hbm, ⟨55, _⟩ => ⟨S1x100, .i32⟩
  | .hbm, ⟨56, _⟩ => ⟨S2100x100, .i32⟩
  | .hbm, ⟨57, _⟩ => ⟨S2100x100, .i32⟩
  | .hbm, ⟨58, _⟩ => ⟨S2100x100, .i1⟩
  | .hbm, ⟨59, _⟩ => ⟨S2100x1, .i32⟩
  | .hbm, ⟨60, _⟩ => ⟨S_, .i32⟩
  | .hbm, ⟨61, _⟩ => ⟨S2100x1, .i32⟩
  | .hbm, ⟨62, _⟩ => ⟨S2100x1, .i1⟩
  | .hbm, ⟨63, _⟩ => ⟨S2100x100, .i1⟩
  | .hbm, ⟨64, _⟩ => ⟨S2100x100, .i1⟩
  | .hbm, ⟨65, _⟩ => ⟨S2100x100, .f32⟩
  | .hbm, ⟨66, _⟩ => ⟨S1x1, .f32⟩
  | .hbm, ⟨67, _⟩ => ⟨S_, .f32⟩
  | .local _ .vmem, ⟨0, _⟩ => ⟨S512x2100, .f32⟩
  | .local _ .vmem, ⟨1, _⟩ => ⟨S512x2100, .f32⟩
  | .local _ .vmem, ⟨2, _⟩ => ⟨S512x2100, .f32⟩
  | .local _ .vmem, ⟨3, _⟩ => ⟨S512x2100, .f32⟩
  | .local _ .vmem, ⟨4, _⟩ => ⟨S512x100, .i32⟩
  | .local _ .vmem, ⟨5, _⟩ => ⟨S512x100, .i32⟩
  | .local _ .vmem, ⟨6, _⟩ => ⟨S512x100, .i32⟩
  | .local _ .vmem, ⟨7, _⟩ => ⟨S512x100, .i32⟩
  | .local _ .vmem, ⟨8, _⟩ => ⟨S100x2100, .f32⟩
  | .local _ .vmem, ⟨9, _⟩ => ⟨S1x2100, .f32⟩
  | .local _ .vmem, ⟨10, _⟩ => ⟨S2100x100, .f32⟩
  | .local _ .vmem, ⟨11, _⟩ => ⟨S1x1, .f32⟩
  | _, _ => ⟨S16384x2100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x100 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x100 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S100x2100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2100x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x2100 : Shape := ⟨2, ![16384, 2100]⟩
abbrev S16384x100 : Shape := ⟨2, ![16384, 100]⟩
abbrev S16384x100x21 : Shape := ⟨3, ![16384, 100, 21]⟩
abbrev S16384x100x20 : Shape := ⟨3, ![16384, 100, 20]⟩
abbrev S_ : Shape := ⟨0, ![]⟩
abbrev S1638400 : Shape := ⟨1, ![1638400]⟩
abbrev S1638400x21 : Shape := ⟨2, ![1638400, 21]⟩
abbrev S1638400x1 : Shape := ⟨2, ![1638400, 1]⟩
abbrev S1638400x2 : Shape := ⟨2, ![1638400, 2]⟩
abbrev S1638400x20 : Shape := ⟨2, ![1638400, 20]⟩
abbrev S16384x100x1 : Shape := ⟨3, ![16384, 100, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x2100, .f32⟩
  | .hbm, ⟨1, _⟩ => ⟨S16384x100, .i32⟩
  | .hbm, ⟨2, _⟩ => ⟨S16384x100x21, .f32⟩
  | .hbm, ⟨3, _⟩ => ⟨S16384x100x20, .f32⟩
  | .hbm, ⟨4, _⟩ => ⟨S_, .i32⟩
  | .hbm, ⟨5, _⟩ => ⟨S16384x100, .i32⟩
  | .hbm, ⟨6, _⟩ => ⟨S16384x100, .i1⟩
  | .hbm, ⟨7, _⟩ => ⟨S1638400, .i32⟩
  | .hbm, ⟨8, _⟩ => ⟨S_, .f32⟩
  | .hbm, ⟨9, _⟩ => ⟨S1638400x21, .f32⟩
  | .hbm, ⟨10, _⟩ => ⟨S1638400, .i32⟩
  | .hbm, ⟨11, _⟩ => ⟨S_, .i32⟩
  | .hbm, ⟨12, _⟩ => ⟨S1638400, .i32⟩
  | .hbm, ⟨13, _⟩ => ⟨S1638400, .i1⟩
  | .hbm, ⟨14, _⟩ => ⟨S_, .i32⟩
  | .hbm, ⟨15, _⟩ => ⟨S1638400, .i32⟩
  | .hbm, ⟨16, _⟩ => ⟨S1638400, .i32⟩
  | .hbm, ⟨17, _⟩ => ⟨S1638400, .i32⟩
  | .hbm, ⟨18, _⟩ => ⟨S_, .i32⟩
  | .hbm, ⟨19, _⟩ => ⟨S1638400, .i32⟩
  | .hbm, ⟨20, _⟩ => ⟨S1638400, .i1⟩
  | .hbm, ⟨21, _⟩ => ⟨S_, .i32⟩
  | .hbm, ⟨22, _⟩ => ⟨S1638400, .i32⟩
  | .hbm, ⟨23, _⟩ => ⟨S1638400, .i32⟩
  | .hbm, ⟨24, _⟩ => ⟨S1638400, .i32⟩
  | .hbm, ⟨25, _⟩ => ⟨S1638400x1, .i32⟩
  | .hbm, ⟨26, _⟩ => ⟨S1638400x1, .i32⟩
  | .hbm, ⟨27, _⟩ => ⟨S1638400x2, .i32⟩
  | .hbm, ⟨28, _⟩ => ⟨S_, .f32⟩
  | .hbm, ⟨29, _⟩ => ⟨S1638400, .f32⟩
  | .hbm, ⟨30, _⟩ => ⟨S1638400x21, .f32⟩
  | .hbm, ⟨31, _⟩ => ⟨S1638400x20, .f32⟩
  | .hbm, ⟨32, _⟩ => ⟨S16384x100x20, .f32⟩
  | .hbm, ⟨33, _⟩ => ⟨S_, .f32⟩
  | .hbm, ⟨34, _⟩ => ⟨S16384x100x20, .f32⟩
  | .hbm, ⟨35, _⟩ => ⟨S16384x100x20, .f32⟩
  | .hbm, ⟨36, _⟩ => ⟨S16384x100x20, .f32⟩
  | .hbm, ⟨37, _⟩ => ⟨S16384x100x20, .f32⟩
  | .hbm, ⟨38, _⟩ => ⟨S16384x100x20, .f32⟩
  | .hbm, ⟨39, _⟩ => ⟨S16384x100x20, .f32⟩
  | .hbm, ⟨40, _⟩ => ⟨S16384x100x20, .f32⟩
  | .hbm, ⟨41, _⟩ => ⟨S16384x100x20, .f32⟩
  | .hbm, ⟨42, _⟩ => ⟨S16384x100x20, .f32⟩
  | .hbm, ⟨43, _⟩ => ⟨S16384x100x1, .i1⟩
  | .hbm, ⟨44, _⟩ => ⟨S16384x100x1, .f32⟩
  | .hbm, ⟨45, _⟩ => ⟨S16384x100x20, .f32⟩
  | .hbm, ⟨46, _⟩ => ⟨S16384x100x20, .f32⟩
  | .hbm, ⟨47, _⟩ => ⟨S_, .f32⟩
  | .hbm, ⟨48, _⟩ => ⟨S_, .f32⟩
  | _, _ => ⟨S16384x2100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Tables.lean ====
/-
  The three constant tables that the host builds before the launch, read at an index. A column `k` of the flattened
  input is class `k % 21` of group `k / 21`; the tables say so as floats:
  * `e` (100 × 2100): entry (g, k) is 1 where column `k` belongs to group `g`, else 0;
  * `cmod` (1 × 2100): entry (0, k) is the class of column `k`;
  * `e2` (2100 × 100): entry (k, g) is 1 where column `k` belongs to group `g` and is not the ignored class 20, else 0.
-/
module

public import proofs.«01_k».proof.Proof.Gen.KernelIdeal.Frame
public import Idealize.ShloMosaic.Lib.Pipeline.Value
public import Idealize.ShloMosaic.Lib.ValueIdx
public import Idealize.ShloMosaic.Lib.StableHlo.RunRead
public import Idealize.ShloMosaic.Lib.ReduceAll

@[expose] public section

noncomputable section

namespace Cert.KernelIdeal.Tables

open Cert.KernelIdeal Cert.KernelIdeal.Gen Idealize.ShloMosaic Idealize.ShloMosaic.TcCoe Idealize.SL.Sem
open Idealize.ShloMosaic.ValueIdx

/-! ## The group and the class of a column, as words -/

/-- The sign of a word read as a signed number: -1, 0 or 1. -/
def signWord (w : BitVec 32) : BitVec 32 := if w = 0 then 0 else if w.msb then -1 else 1

/-- Floor division by 21 as the host computes it: the truncated quotient, less one where the signs differ and the
    remainder is not zero. -/
def grpWord (w : BitVec 32) : BitVec 32 :=
  Scalar.select
    (IntOp.andi (IntOp.cmpi .ne (signWord w) (signWord 21#32)) (IntOp.cmpi .ne (IntOp.remsi .host w 21#32) 0#32))
    (IntOp.subi (IntOp.divsi .host w 21#32) 1#32) (IntOp.divsi .host w 21#32)

/-- The divisor as the host's remainder takes it: 1 in place of 0. -/
def divWord : BitVec 32 := Scalar.select (IntOp.cmpi .eq 21#32 0#32) 1#32 21#32

/-- Remainder by 21 with the divisor's sign, as the host computes it: the truncated remainder, plus the divisor where
    the signs differ and the remainder is not zero. -/
def clsWord (w : BitVec 32) : BitVec 32 :=
  Scalar.select
    (IntOp.andi (IntOp.cmpi .ne (IntOp.cmpi .slt (IntOp.remsi .host w divWord) 0#32) (IntOp.cmpi .slt divWord 0#32))
      (IntOp.cmpi .ne (IntOp.remsi .host w divWord) 0#32))
    (IntOp.addi (IntOp.remsi .host w divWord) divWord) (IntOp.remsi .host w divWord)

/-- The group of column `k` is `k / 21`. -/
theorem grpWord_eq : ∀ k : Fin 2100, grpWord (BitVec.ofNat 32 k.val) = BitVec.ofNat 32 (k.val / 21) := by
  decide +kernel

/-- The class of column `k` is `k % 21`. -/
theorem clsWord_eq : ∀ k : Fin 2100, clsWord (BitVec.ofNat 32 k.val) = BitVec.ofNat 32 (k.val % 21) := by
  decide +kernel

variable (m : (ℓ : Loc nD τ sig) → Buf (Elt Ideal) ℓ)

/-- The vector of column groups, as the host's operations compose it. -/
def grpVec : IVec S2100 32 :=
  select
    (andi (cmpi .ne (signi (iotaInDim S2100 32 0)) (broadcastInDim S2100 ![] bcast_S_S2100 (signi (constantI S_ 32 21#32))))
      (cmpi .ne (Host.remsi (iotaInDim S2100 32 0) (broadcastInDim S2100 ![] bcast_S_S2100 (constantI S_ 32 21#32)))
        (broadcastInDim S2100 ![] bcast_S_S2100 (constantI S_ 32 0#32))))
    (subi (Host.divsi (iotaInDim S2100 32 0) (broadcastInDim S2100 ![] bcast_S_S2100 (constantI S_ 32 21#32)))
      (broadcastInDim S2100 ![] bcast_S_S2100 (constantI S_ 32 1#32)))
    (Host.divsi (iotaInDim S2100 32 0) (broadcastInDim S2100 ![] bcast_S_S2100 (constantI S_ 32 21#32)))

/-- The divisor of the remainder, as the host's operations compose it. -/
def divVec : IVec S_ 32 :=
  select (cmpi .eq (constantI S_ 32 21#32) (constantI S_ 32 0#32)) (constantI S_ 32 1#32) (constantI S_ 32 21#32)

/-- The truncated remainders, as the host's operations compose them. -/
def remVec : IVec S2100 32 :=
  Host.remsi (iotaInDim S2100 32 0) (broadcastInDim S2100 ![] bcast_S_S2100 divVec)

/-- The vector of column classes, as the host's operations compose it. -/
def clsVec : IVec S2100 32 :=
  select
    (andi
      (cmpi .ne (cmpi .slt remVec (broadcastInDim S2100 ![] bcast_S_S2100 (constantI S_ 32 0#32)))
        (broadcastInDim S2100 ![] bcast_S_S2100 (cmpi .slt divVec (constantI S_ 32 0#32))))
      (cmpi .ne remVec (broadcastInDim S2100 ![] bcast_S_S2100 (constantI S_ 32 0#32))))
    (addi remVec (broadcastInDim S2100 ![] bcast_S_S2100 divVec)) remVec

/-- The vector of groups that the launch finds. -/
theorem grp_at (c : Dev nD) : (V m c main_v1 : IVec S2100 32) = grpVec := by
  after_reads_simp
  rfl

/-- The vector of classes that the launch finds. -/
theorem cls_at (c : Dev nD) : (V m c main_v3 : IVec S2100 32) = clsVec := by
  after_reads_simp
  rfl

/-- Column `k`'s entry of the vector of groups. -/
theorem grpVec_apply (i : S2100.Idx) : grpVec i = grpWord (BitVec.ofNat 32 (i 0).val) := by
  rfl

/-- Column `k`'s entry of the vector of classes. -/
theorem clsVec_apply (i : S2100.Idx) : clsVec i = clsWord (BitVec.ofNat 32 (i 0).val) := by
  rfl

/-- The table `e` that the launch finds, over the vector of groups. -/
theorem e_at (c : Dev nD) : (V m c main_v10 : FVec Ideal S100x2100 .f32)
    = uitofp (F := Ideal) .f32 (cmpi .eq
        (broadcastInDim S100x2100 ![0, 1] bcast_S1x2100_S100x2100_0_1 (broadcastInDim S1x2100 ![1] bcast_S2100_S1x2100_1 grpVec))
        (broadcastInDim S100x2100 ![0, 1] bcast_S100x1_S100x2100_0_1 (broadcastInDim S100x1 ![0] bcast_S100_S100x1_0 (iotaInDim S100 32 0)))) := by
  after_reads_simp
  rfl

/-- The table `cmod` that the launch finds, over the vector of classes. -/
theorem cmod_at (c : Dev nD) : (V m c main_v12 : FVec Ideal S1x2100 .f32)
    = sitofp (F := Ideal) .f32 (broadcastInDim S1x2100 ![1] bcast_S2100_S1x2100_1 clsVec) := by
  after_reads_simp
  rfl

/-- The table `e2` that the launch finds, over the vectors of groups and classes. -/
theorem e2_at (c : Dev nD) : (V m c main_v24 : FVec Ideal S2100x100 .f32)
    = uitofp (F := Ideal) .f32 (andi
        (cmpi .eq
          (broadcastInDim S2100x100 ![0, 1] bcast_S2100x1_S2100x100_0_1 (broadcastInDim S2100x1 ![0] bcast_S2100_S2100x1_0 grpVec))
          (broadcastInDim S2100x100 ![0, 1] bcast_S1x100_S2100x100_0_1 (broadcastInDim S1x100 ![1] bcast_S100_S1x100_1 (iotaInDim S100 32 0))))
        (broadcastInDim S2100x100 ![0, 1] bcast_S2100x1_S2100x100_0_1
          (cmpi .ne (broadcastInDim S2100x1 ![0] bcast_S2100_S2100x1_0 clsVec) (broadcastInDim S2100x1 ![] bcast_S_S2100x1 (constantI S_ 32 20#32))))) := by
  after_reads_simp
  rfl

/-- A one-bit word read as an unsigned number at exact arithmetic is 1 where the bit is set, else 0. -/
theorem uitofp_bit (p : Prop) [Decidable p] (b : BitVec 1) (h : b = 1#1 ↔ p) :
    FloatOps.uitofp (F := Ideal) .f32 b = if p then (1 : EReal) else 0 := by
  by_cases hp : p
  · rw [if_pos hp, h.2 hp]; show (((1#1 : BitVec 1).toNat : ℝ) : EReal) = 1; simp
  · rw [if_neg hp, eq_zero_of_ne_one fun e => hp (h.1 e)]; show (((0#1 : BitVec 1).toNat : ℝ) : EReal) = 0; simp

/-- The group word of column `k` is that of group `g` exactly when `k / 21 = g`. -/
theorem grp_bit (k : Fin 2100) (g : Fin 100) :
    IntOp.cmpi .eq (grpWord (BitVec.ofNat 32 k.val)) (BitVec.ofNat 32 g.val) = 1#1 ↔ k.val / 21 = g.val := by
  rw [grpWord_eq]
  have := k.isLt; have := g.isLt
  show BitVec.ofBool (BitVec.ofNat 32 (k.val / 21) == BitVec.ofNat 32 g.val) = 1#1 ↔ _
  constructor
  · intro h
    have h' : BitVec.ofNat 32 (k.val / 21) = BitVec.ofNat 32 g.val := by
      by_contra hne
      rw [beq_eq_false_iff_ne.2 hne] at h
      exact absurd h (by decide)
    have := congrArg BitVec.toNat h'
    simp only [BitVec.toNat_ofNat] at this
    omega
  · intro h
    rw [h]; simp

/-- The class word of column `k` differs from 20 exactly when `k % 21 ≠ 20`. -/
theorem cls_bit : ∀ k : Fin 2100, IntOp.cmpi .ne (clsWord (BitVec.ofNat 32 k.val)) 20#32 = 1#1 ↔ k.val % 21 ≠ 20 := by
  decide +kernel

/-- Entry (g, k) of `e`: 1 where column `k` belongs to group `g`, else 0. -/
theorem e_apply (c : Dev nD) (g : Fin 100) (k : Fin 2100) :
    (V m c main_v10 : FVec Ideal S100x2100 .f32) (ix2 g k) = if k.val / 21 = g.val then (1 : EReal) else 0 := by
  rw [e_at]
  refine Eq.trans ?_ (uitofp_bit _ _ (grp_bit k g))
  rfl

/-- Entry (0, k) of `cmod`: the class of column `k`. -/
theorem cmod_apply (c : Dev nD) (k : Fin 2100) :
    (V m c main_v12 : FVec Ideal S1x2100 .f32) (ix2 (0 : Fin 1) k) = (((k.val % 21 : ℕ) : ℝ) : EReal) := by
  rw [cmod_at]
  show (((clsWord (BitVec.ofNat 32 k.val)).toInt : ℝ) : EReal) = _
  have hc : (BitVec.ofNat 32 (k.val % 21)).toInt = ((k.val % 21 : ℕ) : ℤ) := by
    rw [BitVec.toInt_eq_toNat_of_lt (by rw [BitVec.toNat_ofNat]; omega), BitVec.toNat_ofNat, Nat.mod_eq_of_lt (by omega)]
  rw [clsWord_eq, hc]
  rfl

/-- Entry (k, g) of `e2`: 1 where column `k` belongs to group `g` and is not the ignored class, else 0. -/
theorem e2_apply (c : Dev nD) (k : Fin 2100) (g : Fin 100) :
    (V m c main_v24 : FVec Ideal S2100x100 .f32) (ix2 k g) = if k.val / 21 = g.val ∧ k.val % 21 ≠ 20 then (1 : EReal) else 0 := by
  rw [e2_at]
  refine Eq.trans ?_ (uitofp_bit _ (IntOp.andi (IntOp.cmpi .eq (grpWord (BitVec.ofNat 32 k.val)) (BitVec.ofNat 32 g.val))
      (IntOp.cmpi .ne (clsWord (BitVec.ofNat 32 k.val)) 20#32)) (IntOp.andi_eq_one.trans (and_congr (grp_bit k g) (cls_bit k))))
  rfl

end Cert.KernelIdeal.Tables
-- ==== Proof.Spec.lean ====
/-
  The loss that both programs compute, as a function of the two argument arrays: no program is named here.
-/
module

public import Idealize.ShloMosaic.Lib.ValueIdx
public import Idealize.ShloMosaic.PureOps.Ideal.Laws

@[expose] public section

noncomputable section

namespace Cert.Loss

open Idealize.ShloMosaic Idealize.ShloMosaic.ValueIdx
open scoped BigOperators

/-- The word of the float 0. -/
theorem zero_bits : (Ideal.ofBits .f32 0x00000000#32 : EReal) = 0 := by
  simp [Ideal.ofBits, Ideal.ieee, -EReal.coe_mul]

/-- The word of the float 1. -/
theorem one_bits : (Ideal.ofBits .f32 0x3F800000#32 : EReal) = 1 := by
  simp [Ideal.ofBits, Ideal.ieee, -EReal.coe_mul]; norm_num

/-- The cross-entropy of one logit `x` with a target that is 1 where `p` holds and else 0: max(x, 0) + log(1 + exp(-|x|)) - x·target. -/
def term (x : EReal) (p : Prop) [Decidable p] : EReal :=
  (max x 0 + Ideal.log (1 + Ideal.exp (-(max x (-x))))) - (if p then x else 0)

/-- The column of class `k` in group `g`. -/
def col (g : Fin 100) (k : Fin 20) : Fin 2100 := ⟨21 * g.val + k.val, by omega⟩

/-- The loss of group `g` of a row of logits whose target word is `t`: nothing for the ignored class 20, else the sum over the 20 classes. -/
def group (x : Fin 2100 → EReal) (t : BitVec 32) (g : Fin 100) : EReal :=
  if t = 20#32 then 0 else ∑ k : Fin 20, term (x (col g k)) (t.toInt = (k.val : ℤ))

/-- The loss of one row. -/
def row (x : Fin 2100 → EReal) (t : Fin 100 → BitVec 32) : EReal := ∑ g : Fin 100, group x (t g) g

/-- The loss of the whole batch. -/
def total (X : (⟨2, ![16384, 2100]⟩ : Shape).Idx → EReal) (T : (⟨2, ![16384, 100]⟩ : Shape).Idx → BitVec 32) : EReal :=
  ∑ b : Fin 16384, row (fun c => X (ix2 b c)) (fun g => T (ix2 b g))

end Cert.Loss
-- ==== Proof.Half.lean ====
/-
  One half of a grid point's work at exact arithmetic: over 512 rows of the input and of the targets, the body's loss of
  the half is the sum over rows and groups of the group's loss (`groupLoss`).
-/
module

public import proofs.«01_k».proof.Proof.Gen.KernelIdeal.Frame
public import Idealize.ShloMosaic.Lib.Pipeline.Value
public import Idealize.ShloMosaic.Lib.ValueIdx
public import Idealize.ShloMosaic.Lib.MatmulPlain
public import proofs.«01_k».proof.Proof.Spec

@[expose] public section

noncomputable section

namespace Cert.KernelIdeal.Half

open Cert.KernelIdeal Cert.KernelIdeal.Gen Idealize.ShloMosaic Idealize.ShloMosaic.TcCoe Idealize.SL.Sem
open Idealize.ShloMosaic.ValueIdx Cert.Loss
open scoped BigOperators

/-- The body's loss of one column with value `x` and class `cm`, against the target value `te`. -/
def colLoss (x cm te : EReal) : EReal :=
  (max x 0 + Ideal.log (1 + Ideal.exp (0 - max x (-x)))) - (if cm = te then x else 0)

/-- The target value of each column: the targets' row against the table `e`. -/
def target (t : Vec Ideal S512x100 .i32) (e : Vec Ideal S100x2100 .f32) : FVec Ideal S512x2100 .f32 :=
  matmul (φ₁ := .f32) (φ₂ := .f32) dot_S512x100_S100x2100_S512x2100_1_0_0_1_n_n none (sitofp .f32 t) e (constant S512x2100 .f32 0x00000000#32)

theorem target_apply (t : Vec Ideal S512x100 .i32) (e : Vec Ideal S100x2100 .f32) (r : Fin 512) (k : Fin 2100) :
    target t e (ix2 r k) = ∑ q : Fin 100, (((t (ix2 r q)).toInt : ℝ) : EReal) * e (ix2 q k) := by
  refine (Ideal.matmul_plain_apply (M := 512) (K := 100) (N := 2100) (φ₁ := .f32) (φ₂ := .f32) none (sitofp (F := Ideal) .f32 t) e
    (constant S512x2100 .f32 0x00000000#32) r k).trans ?_
  show Ideal.ofBits .f32 0x00000000#32 + _ = _
  rw [zero_bits, zero_add]
  exact Finset.sum_congr rfl fun q _ => rfl

/-- The loss of each column of each row. -/
def cols (x : Vec Ideal S512x2100 .f32) (cm : Vec Ideal S1x2100 .f32) (te : FVec Ideal S512x2100 .f32) : FVec Ideal S512x2100 .f32 :=
  subf (addf (maximumf x (broadcast S512x2100 (FloatOps.ofBits .f32 0x00000000#32)))
      (log (addf (broadcast S512x2100 (FloatOps.ofBits .f32 0x3F800000#32))
        (exp (subf (broadcast S512x2100 (FloatOps.ofBits .f32 0x00000000#32)) (absf x))))))
    (select (cmpf .oeq (broadcastTo S512x2100 cm broadcasts_S1x2100_S512x2100) te) x
      (broadcast S512x2100 (FloatOps.ofBits .f32 0x00000000#32)))

theorem cols_apply (x : Vec Ideal S512x2100 .f32) (cm : Vec Ideal S1x2100 .f32) (te : FVec Ideal S512x2100 .f32)
    (r : Fin 512) (k : Fin 2100) :
    cols x cm te (ix2 r k) = colLoss (x (ix2 r k)) (cm (ix2 (0 : Fin 1) k)) (te (ix2 r k)) := by
  have hb : broadcastTo S512x2100 cm broadcasts_S1x2100_S512x2100 (ix2 r k) = cm (ix2 (0 : Fin 1) k) := by
    refine congrArg cm (funext fun a => ?_)
    fin_cases a <;> rfl
  have hs : Scalar.select (FloatOps.cmpf (F := Ideal) (φ := .f32) .oeq (cm (ix2 (0 : Fin 1) k)) (te (ix2 r k))) (x (ix2 r k)) (0 : EReal)
      = if cm (ix2 (0 : Fin 1) k) = te (ix2 r k) then x (ix2 r k) else 0 := by
    by_cases h : cm (ix2 (0 : Fin 1) k) = te (ix2 r k)
    · rw [if_pos h, h]; simp [FloatOps.cmpf, Ideal.cmp, Scalar.select]
    · rw [if_neg h]; simp [FloatOps.cmpf, Ideal.cmp, Scalar.select, h]
  show (max (x (ix2 r k)) (Ideal.ofBits .f32 0x00000000#32)
      + Ideal.log (Ideal.ofBits .f32 0x3F800000#32 + Ideal.exp (Ideal.ofBits .f32 0x00000000#32 - max (x (ix2 r k)) (-(x (ix2 r k))))))
    - Scalar.select (FloatOps.cmpf (F := Ideal) (φ := .f32) .oeq (broadcastTo S512x2100 cm broadcasts_S1x2100_S512x2100 (ix2 r k)) (te (ix2 r k)))
        (x (ix2 r k)) (Ideal.ofBits .f32 0x00000000#32) = _
  rw [hb, zero_bits, one_bits, hs]
  rfl

/-- The loss of each group of each row: the columns against the table `e2`, kept where the target is not the ignored class. -/
def groups (t : Vec Ideal S512x100 .i32) (p : FVec Ideal S512x2100 .f32) (e2 : Vec Ideal S2100x100 .f32) : FVec Ideal S512x100 .f32 :=
  select (cmpi .ne t (broadcast S512x100 20#32))
    (matmul (φ₁ := .f32) (φ₂ := .f32) dot_S512x2100_S2100x100_S512x100_1_0_0_1_n_n none p e2 (constant S512x100 .f32 0x00000000#32))
    (broadcast S512x100 (FloatOps.ofBits .f32 0x00000000#32))

theorem groups_apply (t : Vec Ideal S512x100 .i32) (p : FVec Ideal S512x2100 .f32) (e2 : Vec Ideal S2100x100 .f32)
    (r : Fin 512) (g : Fin 100) :
    groups t p e2 (ix2 r g) = if t (ix2 r g) = 20#32 then (0 : EReal) else ∑ k : Fin 2100, p (ix2 r k) * e2 (ix2 k g) := by
  have hm : matmul (φ₁ := .f32) (φ₂ := .f32) dot_S512x2100_S2100x100_S512x100_1_0_0_1_n_n none p e2 (constant S512x100 .f32 0x00000000#32) (ix2 r g)
      = ∑ k : Fin 2100, p (ix2 r k) * e2 (ix2 k g) := by
    refine (Ideal.matmul_plain_apply (M := 512) (K := 2100) (N := 100) (φ₁ := .f32) (φ₂ := .f32) none p e2
      (constant S512x100 .f32 0x00000000#32) r g).trans ?_
    show Ideal.ofBits .f32 0x00000000#32 + _ = _
    rw [zero_bits, zero_add]
  show Scalar.select (IntOp.cmpi .ne (t (ix2 r g)) 20#32)
    (matmul (φ₁ := .f32) (φ₂ := .f32) dot_S512x2100_S2100x100_S512x100_1_0_0_1_n_n none p e2 (constant S512x100 .f32 0x00000000#32) (ix2 r g))
    (Ideal.ofBits .f32 0x00000000#32) = _
  rw [hm, zero_bits]
  by_cases h : t (ix2 r g) = 20#32
  · rw [if_pos h, h]; rfl
  · rw [if_neg h]; simp [IntOp.cmpi, Scalar.select, bne, beq_eq_false_iff_ne.2 h]

/-- The half's loss: the sum over its rows and groups. -/
theorem pay3_apply (x : Vec Ideal S512x2100 .f32) (t : Vec Ideal S512x100 .i32) (e : Vec Ideal S100x2100 .f32)
    (cm : Vec Ideal S1x2100 .f32) (e2 : Vec Ideal S2100x100 .f32) (i : S1x1.Idx) :
    k0_pay3 (F := Ideal) x t e cm e2 t i
      = ∑ r : Fin 512, ∑ g : Fin 100, groups t (cols x cm (target t e)) e2 (ix2 r g) := by
  unfold k0_pay3
  dsimp only
  rw [shapeCast_self, shapeCast_self, shapeCast_self]
  show shapeCast S1x1x1 _ _ _ = _
  rw [shapeCast_apply _ _ _ (ix1 (0 : Fin 1)) (by rfl)]
  refine (Ideal.multiReduction_add_total _ _ _ (fun b => by fin_cases b; rfl) _ _ _).trans ?_
  change ∑ j : S1x512x100.Idx, shapeCast S1x512x100 (groups t (cols x cm (target t e)) e2) shapeCasts_S512x100_S1x512x100 j = _
  rw [← sum_idx2 (groups t (cols x cm (target t e)) e2)]
  exact Equiv.sum_comp (Shape.reshapeEquiv shapeCasts_S512x100_S1x512x100) (groups t (cols x cm (target t e)) e2)

section Equation

variable (x : Vec Ideal S512x2100 .f32) (t : Vec Ideal S512x100 .i32) (e : Vec Ideal S100x2100 .f32)
  (cm : Vec Ideal S1x2100 .f32) (e2 : Vec Ideal S2100x100 .f32)

/-- Under a table `e` that marks each column's group, a column's target value is its group's target. -/
theorem target_eq (he : ∀ (g : Fin 100) (k : Fin 2100), e (ix2 g k) = if k.val / 21 = g.val then (1 : EReal) else 0)
    (r : Fin 512) (g : Fin 100) (k : Fin 20) : target t e (ix2 r (col g k)) = (((t (ix2 r g)).toInt : ℝ) : EReal) := by
  have hg : ∀ q : Fin 100, (col g k).val / 21 = q.val ↔ g = q := fun q => by
    have := k.isLt
    show (21 * g.val + k.val) / 21 = q.val ↔ _
    rw [Fin.ext_iff]
    omega
  rw [target_apply, Finset.sum_congr rfl fun q _ => by rw [he q, if_congr (hg q) rfl rfl, mul_ite, mul_one, mul_zero]]
  exact Finset.sum_ite_eq Finset.univ g _ |>.trans (if_pos (Finset.mem_univ g))

/-- … and under a row `cm` of classes the column's loss is the cross-entropy of its logit. -/
theorem cols_eq (he : ∀ (g : Fin 100) (k : Fin 2100), e (ix2 g k) = if k.val / 21 = g.val then (1 : EReal) else 0)
    (hc : ∀ k : Fin 2100, cm (ix2 (0 : Fin 1) k) = (((k.val % 21 : ℕ) : ℝ) : EReal)) (r : Fin 512) (g : Fin 100) (k : Fin 20) :
    cols x cm (target t e) (ix2 r (col g k)) = term (x (ix2 r (col g k))) ((t (ix2 r g)).toInt = (k.val : ℤ)) := by
  have hk : ((((col g k).val % 21 : ℕ) : ℝ) : EReal) = (((t (ix2 r g)).toInt : ℝ) : EReal) ↔ (t (ix2 r g)).toInt = (k.val : ℤ) := by
    have hm : (col g k).val % 21 = k.val := by
      have := k.isLt
      show (21 * g.val + k.val) % 21 = k.val
      omega
    rw [hm, EReal.coe_eq_coe_iff, ← Int.cast_natCast, Int.cast_inj]
    exact eq_comm
  rw [cols_apply, target_eq t e he, hc]
  unfold colLoss term
  rw [zero_sub, if_congr hk rfl rfl]

/-- A sum over the columns weighted by a table `e2` that marks the 20 classes of each group is the sum over those classes. -/
theorem sum_classes (p : Fin 2100 → EReal) (w : Fin 2100 → EReal) (g : Fin 100)
    (hw : ∀ k : Fin 2100, w k = if k.val / 21 = g.val ∧ k.val % 21 ≠ 20 then (1 : EReal) else 0) :
    ∑ k : Fin 2100, p k * w k = ∑ k : Fin 20, p (col g k) := by
  refine (Finset.sum_of_injOn (col g) (fun a _ b _ h => ?_) (fun _ _ => Finset.mem_coe.2 (Finset.mem_univ _)) (fun k _ hk => ?_) (fun k _ => ?_)).symm
  · have h' : 21 * g.val + a.val = 21 * g.val + b.val := congrArg Fin.val h
    exact Fin.ext (by omega)
  · rw [hw, if_neg, mul_zero]
    rintro ⟨h1, h2⟩
    refine hk ⟨⟨k.val % 21, by omega⟩, Finset.mem_coe.2 (Finset.mem_univ _), Fin.ext ?_⟩
    show 21 * g.val + k.val % 21 = k.val
    omega
  · have := k.isLt
    rw [hw, if_pos, mul_one]
    show (21 * g.val + k.val) / 21 = g.val ∧ (21 * g.val + k.val) % 21 ≠ 20
    omega

/-- The half's loss under the three tables: the sum of its rows' losses. -/
theorem half_eq (he : ∀ (g : Fin 100) (k : Fin 2100), e (ix2 g k) = if k.val / 21 = g.val then (1 : EReal) else 0)
    (hc : ∀ k : Fin 2100, cm (ix2 (0 : Fin 1) k) = (((k.val % 21 : ℕ) : ℝ) : EReal))
    (h2 : ∀ (k : Fin 2100) (g : Fin 100), e2 (ix2 k g) = if k.val / 21 = g.val ∧ k.val % 21 ≠ 20 then (1 : EReal) else 0)
    (i : S1x1.Idx) :
    k0_pay3 (F := Ideal) x t e cm e2 t i = ∑ r : Fin 512, row (fun c => x (ix2 r c)) (fun g => t (ix2 r g)) := by
  rw [pay3_apply]
  refine Finset.sum_congr rfl fun r _ => Finset.sum_congr rfl fun g _ => ?_
  rw [groups_apply, sum_classes (fun k => cols x cm (target t e) (ix2 r k)) (fun k => e2 (ix2 k g)) g fun k => h2 k g]
  unfold group
  rw [Finset.sum_congr rfl fun k _ => cols_eq x t e cm he hc r g k]

/-- … and where the half's rows are rows `f r` of the batch, the sum of those rows' losses. -/
theorem half_rows (he : ∀ (g : Fin 100) (k : Fin 2100), e (ix2 g k) = if k.val / 21 = g.val then (1 : EReal) else 0)
    (hc : ∀ k : Fin 2100, cm (ix2 (0 : Fin 1) k) = (((k.val % 21 : ℕ) : ℝ) : EReal))
    (h2 : ∀ (k : Fin 2100) (g : Fin 100), e2 (ix2 k g) = if k.val / 21 = g.val ∧ k.val % 21 ≠ 20 then (1 : EReal) else 0)
    (f : Fin 512 → Fin 16384) (X : FVec Ideal S16384x2100 .f32) (T : IVec S16384x100 32)
    (hx : ∀ (r : Fin 512) (k : Fin 2100), x (ix2 r k) = X (ix2 (f r) k)) (ht : ∀ (r : Fin 512) (g : Fin 100), t (ix2 r g) = T (ix2 (f r) g))
    (i : S1x1.Idx) :
    k0_pay3 (F := Ideal) x t e cm e2 t i = ∑ r : Fin 512, row (fun k => X (ix2 (f r) k)) (fun g => T (ix2 (f r) g)) := by
  rw [half_eq x t e cm e2 he hc h2]
  exact Finset.sum_congr rfl fun r _ => congrArg₂ row (funext (hx r)) (funext (ht r))

/-- The second half of a grid point's work adds its own half's loss to the first's. -/
theorem both_eq (v : FVec Ideal S1x1 .f32) (i : S1x1.Idx) :
    k0_pay4 (F := Ideal) v x t e cm e2 t i = v i + k0_pay3 (F := Ideal) x t e cm e2 t i := rfl

end Equation

end Cert.KernelIdeal.Half
-- ==== Proof.Blocks.lean ====
/-
  What the windows of a grid point read: point n's two blocks of 512 rows of the logits and of the targets start at rows
  512·n and 512·(n + 16), and the three tables are read whole at every point.
-/
module

public import proofs.«01_k».proof.Proof.Tables
public import proofs.«01_k».proof.Proof.Half

@[expose] public section

noncomputable section

namespace Cert.KernelIdeal.Blocks

open Cert.KernelIdeal Cert.KernelIdeal.Gen Idealize.ShloMosaic Idealize.ShloMosaic.TcCoe Idealize.SL.Sem
open Idealize.ShloMosaic.ValueIdx Cert.Loss
open scoped BigOperators

variable (m : (ℓ : Loc nD τ sig) → Buf (Elt Ideal) ℓ)

/-- The block indices of the seven input windows at each grid point. -/
theorem idx_facts : ∀ t : Fin cfg0.N,
    win0_0.index t = ![t.val, 0] ∧ win0_1.index t = ![t.val + 16, 0] ∧ win0_2.index t = ![t.val, 0] ∧ win0_3.index t = ![t.val + 16, 0]
      ∧ win0_4.index t = ![0, 0] ∧ win0_5.index t = ![0, 0] ∧ win0_6.index t = ![0, 0] :=
  (by decide +kernel : ∀ t : Fin grid0.N, _)

/-- The logits as launched. -/
abbrev X (c : Dev nD) : FVec Ideal S16384x2100 .f32 := m ((c : Thread nD τ).loc main_arg0)
/-- The targets as launched. -/
abbrev T (c : Dev nD) : IVec S16384x100 32 := m ((c : Thread nD τ).loc main_arg1)

theorem lt16 (t : Fin cfg0.N) : t.val < 16 := lt_of_lt_of_eq t.isLt N_0

/-- Row `r` of the first half at point `t`. -/
def rowA (t : Fin cfg0.N) (r : Fin 512) : Fin 16384 := ⟨512 * t.val + r.val, by have := lt16 t; omega⟩
/-- Row `r` of the second half at point `t`. -/
def rowB (t : Fin cfg0.N) (r : Fin 512) : Fin 16384 := ⟨512 * (t.val + 16) + r.val, by have := lt16 t; omega⟩

theorem x1_apply (c : Dev nD) (t : Fin cfg0.N) (r : Fin 512) (k : Fin 2100) :
    (iblk m c 0 t : Vec Ideal S512x2100 .f32) (ix2 r k) = X m c (ix2 (rowA t r) k) := by
  obtain ⟨h0, h1, h2, h3, h4, h5, h6⟩ := idx_facts t
  unfold iblk
  rw [View.read_apply]
  refine (congrFun (V_main_arg0 m c) _).trans (congrArg (X m c) (funext fun a => Fin.ext ?_))
  match a with
  | ⟨0, _⟩ => show win0_0.index t 0 * 512 + 1 * r.val = 512 * t.val + r.val; rw [h0]; show t.val * 512 + _ = _; omega
  | ⟨1, _⟩ => show win0_0.index t 1 * 2100 + 1 * k.val = k.val; rw [h0]; show 0 * 2100 + _ = _; omega

theorem x2_apply (c : Dev nD) (t : Fin cfg0.N) (r : Fin 512) (k : Fin 2100) :
    (iblk m c 1 t : Vec Ideal S512x2100 .f32) (ix2 r k) = X m c (ix2 (rowB t r) k) := by
  obtain ⟨h0, h1, h2, h3, h4, h5, h6⟩ := idx_facts t
  unfold iblk
  rw [View.read_apply]
  refine (congrFun (V_main_arg0 m c) _).trans (congrArg (X m c) (funext fun a => Fin.ext ?_))
  match a with
  | ⟨0, _⟩ => show win0_1.index t 0 * 512 + 1 * r.val = 512 * (t.val + 16) + r.val; rw [h1]; show (t.val + 16) * 512 + _ = _; omega
  | ⟨1, _⟩ => show win0_1.index t 1 * 2100 + 1 * k.val = k.val; rw [h1]; show 0 * 2100 + _ = _; omega

theorem t1_apply (c : Dev nD) (t : Fin cfg0.N) (r : Fin 512) (g : Fin 100) :
    (iblk m c 2 t : Vec Ideal S512x100 .i32) (ix2 r g) = T m c (ix2 (rowA t r) g) := by
  obtain ⟨h0, h1, h2, h3, h4, h5, h6⟩ := idx_facts t
  unfold iblk
  rw [View.read_apply]
  refine (congrFun (V_main_arg1 m c) _).trans (congrArg (T m c) (funext fun a => Fin.ext ?_))
  match a with
  | ⟨0, _⟩ => show win0_2.index t 0 * 512 + 1 * r.val = 512 * t.val + r.val; rw [h2]; show t.val * 512 + _ = _; omega
  | ⟨1, _⟩ => show win0_2.index t 1 * 100 + 1 * g.val = g.val; rw [h2]; show 0 * 100 + _ = _; omega

theorem t2_apply (c : Dev nD) (t : Fin cfg0.N) (r : Fin 512) (g : Fin 100) :
    (iblk m c 3 t : Vec Ideal S512x100 .i32) (ix2 r g) = T m c (ix2 (rowB t r) g) := by
  obtain ⟨h0, h1, h2, h3, h4, h5, h6⟩ := idx_facts t
  unfold iblk
  rw [View.read_apply]
  refine (congrFun (V_main_arg1 m c) _).trans (congrArg (T m c) (funext fun a => Fin.ext ?_))
  match a with
  | ⟨0, _⟩ => show win0_3.index t 0 * 512 + 1 * r.val = 512 * (t.val + 16) + r.val; rw [h3]; show (t.val + 16) * 512 + _ = _; omega
  | ⟨1, _⟩ => show win0_3.index t 1 * 100 + 1 * g.val = g.val; rw [h3]; show 0 * 100 + _ = _; omega

theorem e_blk (c : Dev nD) (t : Fin cfg0.N) (g : Fin 100) (k : Fin 2100) :
    (iblk m c 4 t : Vec Ideal S100x2100 .f32) (ix2 g k) = if k.val / 21 = g.val then (1 : EReal) else 0 := by
  obtain ⟨h0, h1, h2, h3, h4, h5, h6⟩ := idx_facts t
  refine Eq.trans ?_ (Tables.e_apply m c g k)
  unfold iblk
  rw [View.read_apply]
  refine congrArg (V m c main_v10 : FVec Ideal S100x2100 .f32) (funext fun a => Fin.ext ?_)
  match a with
  | ⟨0, _⟩ => show win0_4.index t 0 * 100 + 1 * g.val = g.val; rw [h4]; show 0 * 100 + _ = _; omega
  | ⟨1, _⟩ => show win0_4.index t 1 * 2100 + 1 * k.val = k.val; rw [h4]; show 0 * 2100 + _ = _; omega

theorem cmod_blk (c : Dev nD) (t : Fin cfg0.N) (k : Fin 2100) :
    (iblk m c 5 t : Vec Ideal S1x2100 .f32) (ix2 (0 : Fin 1) k) = (((k.val % 21 : ℕ) : ℝ) : EReal) := by
  obtain ⟨h0, h1, h2, h3, h4, h5, h6⟩ := idx_facts t
  refine Eq.trans ?_ (Tables.cmod_apply m c k)
  unfold iblk
  rw [View.read_apply]
  refine congrArg (V m c main_v12 : FVec Ideal S1x2100 .f32) (funext fun a => Fin.ext ?_)
  match a with
  | ⟨0, _⟩ => show win0_5.index t 0 * 1 + 1 * 0 = 0; rw [h5]; rfl
  | ⟨1, _⟩ => show win0_5.index t 1 * 2100 + 1 * k.val = k.val; rw [h5]; show 0 * 2100 + _ = _; omega

theorem e2_blk (c : Dev nD) (t : Fin cfg0.N) (k : Fin 2100) (g : Fin 100) :
    (iblk m c 6 t : Vec Ideal S2100x100 .f32) (ix2 k g) = if k.val / 21 = g.val ∧ k.val % 21 ≠ 20 then (1 : EReal) else 0 := by
  obtain ⟨h0, h1, h2, h3, h4, h5, h6⟩ := idx_facts t
  refine Eq.trans ?_ (Tables.e2_apply m c k g)
  unfold iblk
  rw [View.read_apply]
  refine congrArg (V m c main_v24 : FVec Ideal S2100x100 .f32) (funext fun a => Fin.ext ?_)
  match a with
  | ⟨0, _⟩ => show win0_6.index t 0 * 2100 + 1 * k.val = k.val; rw [h6]; show 0 * 2100 + _ = _; omega
  | ⟨1, _⟩ => show win0_6.index t 1 * 100 + 1 * g.val = g.val; rw [h6]; show 0 * 100 + _ = _; omega

/-- The loss of row `b` of the batch. -/
def lossOf (c : Dev nD) (b : Fin 16384) : EReal := row (fun k => X m c (ix2 b k)) (fun g => T m c (ix2 b g))

/-- What both halves of point `t` add up to: the losses of its 1024 rows. -/
theorem point_eq (c : Dev nD) (t : Fin cfg0.N) (i : S1x1.Idx) :
    k0_pay4 (F := Ideal) (k0_pay3 (iblk m c 0 t) (iblk m c 2 t) (iblk m c 4 t) (iblk m c 5 t) (iblk m c 6 t) (iblk m c 2 t))
        (iblk m c 1 t) (iblk m c 3 t) (iblk m c 4 t) (iblk m c 5 t) (iblk m c 6 t) (iblk m c 3 t) i
      = ∑ r : Fin 512, lossOf m c (rowA t r) + ∑ r : Fin 512, lossOf m c (rowB t r) := by
  refine (Half.both_eq _ _ _ _ _ _ i).trans (congrArg₂ (· + ·) ?_ ?_)
  · exact Half.half_rows _ _ _ _ _ (e_blk m c t) (cmod_blk m c t) (e2_blk m c t) (rowA t) (X m c) (T m c) (x1_apply m c t) (t1_apply m c t) i
  · exact Half.half_rows _ _ _ _ _ (e_blk m c t) (cmod_blk m c t) (e2_blk m c t) (rowB t) (X m c) (T m c) (x2_apply m c t) (t2_apply m c t) i

end Cert.KernelIdeal.Blocks
-- ==== Proof.Fold.lean ====
/-
  The kernel's run, read: its 1×1 accumulator is the fold of the 16 grid points, the last point writes it to the
  result array, and the host's reshape after the launch makes that array's entry the scalar result.
-/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One grid point -/

theorem hz2 : (![0, 0] : Fin 2 → Nat) = fun _ => 0 := funext fun a => by fin_cases a <;> rfl

/-- At the first point the accumulator ends at the two blocks' loss added to zero. -/
theorem first_point (c : Dev nD) (i : grid0.Coords) (arg1 : Memref sig .tc .vmem S512x2100 .f32) (harg1 : arg1.IsWhole) (arg2 : Memref sig .tc .vmem S512x2100 .f32) (harg2 : arg2.IsWhole) (arg3 : Memref sig .tc .vmem S512x100 .i32) (harg3 : arg3.IsWhole) (arg4 : Memref sig .tc .vmem S512x100 .i32) (harg4 : arg4.IsWhole) (arg5 : Memref sig .tc .vmem S100x2100 .f32) (harg5 : arg5.IsWhole) (arg6 : Memref sig .tc .vmem S1x2100 .f32) (harg6 : arg6.IsWhole) (arg7 : Memref sig .tc .vmem S2100x100 .f32) (harg7 : arg7.IsWhole) (arg8 : Memref sig .tc .vmem S1x1 .f32) (harg8 : arg8.IsWhole) (hc0 : cond0_0 i)
    (x0 : Vec F S512x2100 .f32) (x1 : Vec F S512x2100 .f32) (x2 : Vec F S512x100 .i32) (x3 : Vec F S512x100 .i32) (x4 : Vec F S100x2100 .f32) (x5 : Vec F S1x2100 .f32) (x6 : Vec F S2100x100 .f32) :
    out0_A_7 c i arg1 harg1 arg2 harg2 arg3 harg3 arg4 harg4 arg5 harg5 arg6 harg6 arg7 harg7 arg8 harg8 hc0 x0 x1 x2 x3 x4 x5 x6 = k0_pay2 (k0_pay4 (k0_pay3 x0 x2 x4 x5 x6 x2) x1 x3 x4 x5 x6 x3) (k0_pay1 (F := F)) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5 x6)]
  unfold kernelRun0_A
  dsimp only
  try sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, View.ld_unit_zero (S := S100x2100) hz2, View.ld_unit_zero (S := S1x1) hz2, View.ld_unit_zero (S := S1x2100) hz2, View.ld_unit_zero (S := S2100x100) hz2, View.ld_unit_zero (S := S512x100) hz2, View.ld_unit_zero (S := S512x2100) hz2, shapeCast_self]

/-- At a later point the accumulator ends at the two blocks' loss added to what the point before left. -/
theorem later_point (c : Dev nD) (i : grid0.Coords) (arg1 : Memref sig .tc .vmem S512x2100 .f32) (harg1 : arg1.IsWhole) (arg2 : Memref sig .tc .vmem S512x2100 .f32) (harg2 : arg2.IsWhole) (arg3 : Memref sig .tc .vmem S512x100 .i32) (harg3 : arg3.IsWhole) (arg4 : Memref sig .tc .vmem S512x100 .i32) (harg4 : arg4.IsWhole) (arg5 : Memref sig .tc .vmem S100x2100 .f32) (harg5 : arg5.IsWhole) (arg6 : Memref sig .tc .vmem S1x2100 .f32) (harg6 : arg6.IsWhole) (arg7 : Memref sig .tc .vmem S2100x100 .f32) (harg7 : arg7.IsWhole) (arg8 : Memref sig .tc .vmem S1x1 .f32) (harg8 : arg8.IsWhole) (hc0 : ¬cond0_0 i)
    (x0 : Vec F S512x2100 .f32) (x1 : Vec F S512x2100 .f32) (x2 : Vec F S512x100 .i32) (x3 : Vec F S512x100 .i32) (x4 : Vec F S100x2100 .f32) (x5 : Vec F S1x2100 .f32) (x6 : Vec F S2100x100 .f32) (xo7 : Vec F S1x1 .f32) :
    out0_B_7 c i arg1 harg1 arg2 harg2 arg3 harg3 arg4 harg4 arg5 harg5 arg6 harg6 arg7 harg7 arg8 harg8 hc0 x0 x1 x2 x3 x4 x5 x6 xo7 = k0_pay2 (k0_pay4 (k0_pay3 x0 x2 x4 x5 x6 x2) x1 x3 x4 x5 x6 x3) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 x6 xo7)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S100x2100) hz2, View.ld_unit_zero (S := S1x1) hz2, View.ld_unit_zero (S := S1x2100) hz2, View.ld_unit_zero (S := S2100x100) hz2, View.ld_unit_zero (S := S512x100) hz2, View.ld_unit_zero (S := S512x2100) hz2, shapeCast_self]

/-- The accumulator after a first point `n`, as a function of the blocks the point reads. -/
def reset7 (c : Dev nD) (n : ℕ) (h : n < cfg0.N) : Vec F S1x1 .f32 :=
  k0_pay2 (k0_pay4 (k0_pay3 (iblk m c 0 ⟨n, h⟩) (iblk m c 2 ⟨n, h⟩) (iblk m c 4 ⟨n, h⟩) (iblk m c 5 ⟨n, h⟩) (iblk m c 6 ⟨n, h⟩) (iblk m c 2 ⟨n, h⟩)) (iblk m c 1 ⟨n, h⟩) (iblk m c 3 ⟨n, h⟩)
    (iblk m c 4 ⟨n, h⟩) (iblk m c 5 ⟨n, h⟩) (iblk m c 6 ⟨n, h⟩) (iblk m c 3 ⟨n, h⟩)) (k0_pay1 (F := F))

/-- The accumulator after a later point `n`, as a function of the blocks the point reads and of what the point before left. -/
def step7 (c : Dev nD) (n : ℕ) (h : n < cfg0.N) (acc : Vec F S1x1 .f32) : Vec F S1x1 .f32 :=
  k0_pay2 (k0_pay4 (k0_pay3 (iblk m c 0 ⟨n, h⟩) (iblk m c 2 ⟨n, h⟩) (iblk m c 4 ⟨n, h⟩) (iblk m c 5 ⟨n, h⟩) (iblk m c 6 ⟨n, h⟩) (iblk m c 2 ⟨n, h⟩)) (iblk m c 1 ⟨n, h⟩) (iblk m c 3 ⟨n, h⟩)
    (iblk m c 4 ⟨n, h⟩) (iblk m c 5 ⟨n, h⟩) (iblk m c 6 ⟨n, h⟩) (iblk m c 3 ⟨n, h⟩)) acc

/-! ## The accumulator after the grid, and the result array -/

theorem last_lt : 0 + 15 < cfg0.N := by rw [show cfg0.N = 16 from N_0]; decide

/-- What the result array ends holding: the fold of the 16 points. -/
def G7 (c : Dev nD) : Buf (Elt F) ((c : Thread nD τ).loc main_v25) :=
  Pipeline.accAt (reset7 m c) (step7 m c) 0 15 last_lt

/-- A fold depends on its first point and its length only. -/
theorem fold_congr (c : Dev nD) {b j b' j' : ℕ} (h : b + j < cfg0.N) (h' : b' + j' < cfg0.N) (hb : b = b') (hj : j = j') :
    Pipeline.accAt (reset7 m c) (step7 m c) b j h = Pipeline.accAt (reset7 m c) (step7 m c) b' j' h' := by
  subst hb; subst hj; rfl

/-- After the last point the accumulator holds the fold of the 16 points. -/
theorem acc_last (c : Dev nD) (t : Fin cfg0.N) (ht : t.val % 16 = 15) : outsAt0 m c t.val t.isLt = G7 m c := by
  have hN : t.val < 16 := lt_of_lt_of_eq t.isLt N_0
  have hlt : 16 * (t.val / 16) + t.val % 16 < cfg0.N := lt_of_eq_of_lt (Nat.div_add_mod t.val 16) t.isLt
  refine (Pipeline.eq_accAt_of_mod (fun n h => outsAt0 m c n h) 16 (reset7 m c) (step7 m c) (fun n h hn => ?_) (fun n h hn => ?_)
    (by decide) t.val t.isLt hlt).trans (fold_congr m c _ _ (by omega) ht)
  · rw [outsAt0_A m c ⟨n, h⟩ hn]
    exact first_point ..
  · rw [outsAt0_B m c ⟨n + 1, h⟩ hn]
    exact later_point ..

/-- The result window's block is block (0, 0) at every point. -/
theorem block_zero : ∀ (t : Fin cfg0.N) (a : Fin 2), win0_7.index t a = 0 :=
  (by decide +kernel : ∀ (t : Fin grid0.N) (a : Fin 2), _)

/-- The 1×1 array has one index. -/
theorem one_index (i j : S1x1.Idx) : i = j := by
  funext a
  fin_cases a <;> exact Subsingleton.elim (α := Fin 1) _ _

/-- What the last point writes back is the fold, read through the point's block. -/
theorem written (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, acc_last m c t ((flush0_7 t).mp hf)]
  funext y
  exact congrArg (G7 m c : S1x1.Idx → Elt F .f32) (one_index _ _)

/-- The array's one index is in every point's block. -/
theorem in_block (t : Fin cfg0.N) (i : S1x1.Idx) : i ∈ ((cfg0.win 7).blk t).view.set := by
  show i ∈ ((View.whole main_v25).slice (win0_7.rect t)).set
  rw [View.set_slice_whole, Rect.mem_set_unit]
  intro a
  show win0_7.index t a * S1x1.size a ≤ (i a).val ∧ (i a).val < win0_7.index t a * S1x1.size a + S1x1.size a
  rw [block_zero t a, Nat.zero_mul, Nat.zero_add]
  exact ⟨Nat.zero_le _, (i a).isLt⟩

/-- The result array ends holding the fold of the 16 points. -/
theorem final7 (c : Dev nD) : (dats m 0 c).arrAt 7 cfg0.N = G7 m c :=
  (dats m 0 c).arrAt_eq_of_cover 7 _ (fun t hf => written m c t hf)
    (fun i => ⟨⟨15, by rw [show cfg0.N = 16 from N_0]; decide⟩, (flush0_7 _).mpr rfl, in_block _ i⟩)

/-! ## The scalar result -/

/-- The scalar result: the array's entry. -/
def scalar (c : Dev nD) : Buf (Elt F) ((c : Thread nD τ).loc main_v26) :=
  shapeCast S_ (G7 m c : Vec F S1x1 .f32) shapeCasts_S1x1_S_

/-- The reshape after the launch leaves the array's entry in the scalar result. -/
theorem tail_read (c : Dev nD) : Pipeline.afterTail₀ cfgs (dats m) 0 (V0 m) [hostOps1] c main_v26 = scalar m c := by
  have hw : Pipeline.withArrays spec0 c (V0 m c) (fun w => (dats m 0 c).arrAt w cfg0.N) (Proc.devRef .tc main_v25) = G7 m c :=
    ((dats m 0 c).withArrays_arrAt sharedIn0 (V0 m c) (A_eq m c) 7).trans (final7 m c)
  unfold Pipeline.afterTail₀
  show StableHlo.after hostOps1 _ (Proc.devRef .tc main_v26) = _
  unfold hostOps1 scalar
  rw [← hw]
  after_results
  rfl

/-- The whole program's run: the scalar result holds the array's entry, the arguments are unchanged. -/
theorem run : θ_run defs (onTc (τ := τ) (main (F := F))) ⟨m, fun _ => 0, ρ⟩ fun r => ∀ c : Dev nD,
      r.2.mem ((c : Thread nD τ).loc main_v26) = scalar m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v26 (by decide)).trans (tail_read m c), h.2 c⟩)
    (θ_run_and (run_main m ρ) (unchanged m ρ))

end Cert.KernelIdeal.Value

end
-- ==== Proof.KernelValue.lean ====
/-
  What the kernel's result is at exact arithmetic: the 16 grid points each add the losses of their 1024 rows, so the
  1×1 array, and the scalar read from it, hold the loss of the whole batch.
-/
module

public import proofs.«01_k».proof.Proof.Blocks
public import proofs.«01_k».proof.Proof.Fold

@[expose] public section

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.Loss Cert.KernelIdeal.Blocks
open scoped BigOperators

variable (m : (ℓ : Loc nD τ sig) → Buf (Elt Ideal) ℓ)

/-- The loss of row `b`, as a function of every natural number: 0 past the batch. -/
def lossAt (c : Dev nD) (b : ℕ) : EReal := if h : b < 16384 then lossOf m c ⟨b, h⟩ else 0

theorem lossAt_of_lt (c : Dev nD) (b : ℕ) (h : b < 16384) : lossAt m c b = lossOf m c ⟨b, h⟩ := dif_pos h

/-- The loss of the 512 rows of block `q`. -/
def blockLoss (c : Dev nD) (q : ℕ) : EReal := ∑ r : Fin 512, lossAt m c (512 * q + r.val)

/-- Grid point `n` adds the losses of blocks `n` and `n + 16`. -/
theorem point_blocks (c : Dev nD) (n : ℕ) (h : n < cfg0.N) (i : S1x1.Idx) :
    k0_pay4 (F := Ideal) (k0_pay3 (iblk m c 0 ⟨n, h⟩) (iblk m c 2 ⟨n, h⟩) (iblk m c 4 ⟨n, h⟩) (iblk m c 5 ⟨n, h⟩) (iblk m c 6 ⟨n, h⟩) (iblk m c 2 ⟨n, h⟩))
        (iblk m c 1 ⟨n, h⟩) (iblk m c 3 ⟨n, h⟩) (iblk m c 4 ⟨n, h⟩) (iblk m c 5 ⟨n, h⟩) (iblk m c 6 ⟨n, h⟩) (iblk m c 3 ⟨n, h⟩) i
      = blockLoss m c n + blockLoss m c (n + 16) := by
  have hn : n < 16 := lt16 ⟨n, h⟩
  refine (point_eq m c ⟨n, h⟩ i).trans (congrArg₂ (· + ·) ?_ ?_)
  · exact Finset.sum_congr rfl fun r _ => (lossAt_of_lt m c _ (show 512 * n + r.val < 16384 by omega)).symm
  · exact Finset.sum_congr rfl fun r _ => (lossAt_of_lt m c _ (show 512 * (n + 16) + r.val < 16384 by omega)).symm

/-- The fold over the 16 grid points: the sum of what they add. -/
theorem fold_eq (c : Dev nD) (h : 0 + 15 < cfg0.N) (i : S1x1.Idx) :
    Pipeline.accAt (reset7 m c) (step7 m c) 0 15 h i = ∑ s ∈ Finset.range 16, (blockLoss m c s + blockLoss m c (s + 16)) := by
  refine (Pipeline.accAt_add_apply (reset7 m c) (step7 m c) (fun _ => (0 : EReal)) (fun n _ => blockLoss m c n + blockLoss m c (n + 16)) 0 15
    (fun h i => ?_) (fun n h acc i _ _ => ?_) 15 (le_refl _) h i).trans ?_
  · unfold reset7
    show Ideal.ofBits .f32 0x00000000#32 + _ = _
    rw [zero_bits]
    exact congrArg (0 + ·) (point_blocks m c 0 h i)
  · unfold step7
    show shapeCast S1x1 acc shapeCasts_S1x1_S1x1 i + _ = _
    rw [shapeCast_self]
    exact congrArg (acc i + ·) (point_blocks m c n h i)
  · rw [zero_add]
    exact Finset.sum_congr rfl fun s _ => by rw [Nat.zero_add]

/-- The 32 blocks of 512 rows are the batch. -/
theorem blocks_total (c : Dev nD) : ∑ s ∈ Finset.range 16, (blockLoss m c s + blockLoss m c (s + 16)) = total (X m c) (T m c) := by
  have h1 : ∑ s ∈ Finset.range 16, (blockLoss m c s + blockLoss m c (s + 16)) = ∑ q : Fin 32, blockLoss m c q.val := by
    rw [Finset.sum_add_distrib, Fin.sum_univ_eq_sum_range (fun q => blockLoss m c q) 32, show (32 : ℕ) = 16 + 16 from rfl, Finset.sum_range_add]
    exact congrArg (_ + ·) (Finset.sum_congr rfl fun s _ => by rw [Nat.add_comm])
  rw [h1]
  have h2 : ∑ b : Fin (32 * 512), lossAt m c b.val = ∑ q : Fin 32, blockLoss m c q.val := by
    rw [← Equiv.sum_comp finProdFinEquiv (fun b : Fin (32 * 512) => lossAt m c b.val), Fintype.sum_prod_type]
    refine Finset.sum_congr rfl fun q _ => Finset.sum_congr rfl fun r _ => ?_
    show lossAt m c (r.val + 512 * q.val) = lossAt m c (512 * q.val + r.val)
    rw [Nat.add_comm]
  rw [← h2]
  exact Finset.sum_congr rfl fun b _ => dif_pos b.isLt

/-- The result array ends holding the loss of the whole batch. -/
theorem array_eq (c : Dev nD) (i : S1x1.Idx) : (G7 m c : FVec Ideal S1x1 .f32) i = total (X m c) (T m c) :=
  (fold_eq m c last_lt i).trans (blocks_total m c)

/-- The scalar result is the loss of the whole batch. -/
theorem result_eq (c : Dev nD) (i : S_.Idx) : (scalar m c : FVec Ideal S_ .f32) i = total (X m c) (T m c) :=
  array_eq m c _

end Cert.KernelIdeal.KernelValue
-- ==== Proof.OneHot.lean ====
/-
  What the reference's scatter writes: under targets that are not negative, entry (n, k) of its table of rows is 1 where
  the n-th target, in row-major order, is class k, and 0 elsewhere.
-/
module

public import proofs.«01_k».proof.Proof.Gen.ReferenceIdeal.Read
public import Idealize.ShloMosaic.Lib.Routing.OpsSet
public import Idealize.ShloMosaic.Lib.ValueIdx

@[expose] public section

noncomputable section

namespace Cert.ReferenceIdeal.OneHot

open Cert.ReferenceIdeal Cert.ReferenceIdeal.Read Idealize.ShloMosaic Idealize.ShloMosaic.TcCoe Idealize.SL.Sem
open Idealize.ShloMosaic.ValueIdx Idealize.ShloMosaic.Routing

/-- The scatter's dimension numbers, under a short name. -/
abbrev dims := scatter_S1638400x21_S1638400x2_S1638400_n_01_01_1

theorem window_eq (n : Fin 1638400) (q : Fin 2) : dims.window (ix1 n) q = 0 := by
  unfold ScatterDims.window
  rw [dif_neg fun h => (of_decide_eq_true (List.mem_filter.1 h).2) (by fin_cases q <;> decide)]

/-- On axis `q` update `n` starts at word `q` of row `n` of the index table, read signed. -/
theorem start_eq (idx : IVec S1638400x2 32) (n : Fin 1638400) (q : Fin 2) :
    dims.start (ix1 n) idx q = (idx (ix2 n q)).toInt := by
  have hm : q ∈ dims.scatterDimsToOperandDims := by fin_cases q <;> decide
  have hsi : dims.siIdx (ix1 n) ⟨dims.scatterDimsToOperandDims.idxOf q, List.idxOf_lt_length_iff.2 hm⟩ = ix2 n q := by
    funext b'
    apply Fin.ext
    match b' with
    | ⟨0, _⟩ =>
      unfold ScatterDims.siIdx
      rw [dif_neg (by show ¬ (0 : ℕ) = 1; omega)]
      rfl
    | ⟨1, _⟩ =>
      unfold ScatterDims.siIdx
      rw [dif_pos (by show (1 : ℕ) = 1; rfl)]
      fin_cases q <;> rfl
  unfold ScatterDims.start
  rw [dif_pos hm, hsi]

/-- Update `n` lands at entry (r, c) exactly when the two words of row `n`, read signed, are `r` and `c`. -/
theorem lands (idx : IVec S1638400x2 32) (n : Fin 1638400) (r : Fin 1638400) (c : Fin 21) :
    dims.resultIdx? (ix1 n) idx = some (ix2 r c) ↔ (idx (ix2 n (0 : Fin 2))).toInt = r.val ∧ (idx (ix2 n (1 : Fin 2))).toInt = c.val := by
  rw [resultIdx?_ix2, start_eq, start_eq, window_eq, window_eq]
  omega

/-- Two columns joined side by side: the left column is the first. -/
theorem join_left (y z : IVec S1638400x1 32) (n : Fin 1638400) :
    concatenate S1638400x2 1 [⟨S1638400x1, y⟩, ⟨S1638400x1, z⟩] Gen.concatenates_S1638400x1_S1638400x1_S1638400x2_d1 (ix2 n (0 : Fin 2))
      = y (ix2 n (0 : Fin 1)) :=
  concatenate_pair_apply_left (s₁ := S1638400x1) (s₂ := S1638400x1) (t := S1638400x2) (1 : Fin 2) y z _ _ rfl _ (fun b => match b with
    | ⟨0, _⟩ => rfl
    | ⟨1, _⟩ => rfl)

/-- … and the right column is the second. -/
theorem join_right (y z : IVec S1638400x1 32) (n : Fin 1638400) :
    concatenate S1638400x2 1 [⟨S1638400x1, y⟩, ⟨S1638400x1, z⟩] Gen.concatenates_S1638400x1_S1638400x1_S1638400x2_d1 (ix2 n (1 : Fin 2))
      = z (ix2 n (0 : Fin 1)) :=
  concatenate_pair_apply_right (s₁ := S1638400x1) (s₂ := S1638400x1) (t := S1638400x2) (1 : Fin 2) y z _ _ rfl rfl _ (fun b hb => match b with
    | ⟨0, _⟩ => rfl
    | ⟨1, _⟩ => absurd rfl hb) rfl

/-- The first index word of row `n` is `n`. -/
theorem word0 (x1 : IVec S16384x100 32) (n : Fin 1638400) :
    (val_main_v19 (F := Ideal) x1 (ix2 n (0 : Fin 2))).toInt = n.val := by
  have hv : val_main_v19 (F := Ideal) x1 (ix2 n (0 : Fin 2)) = val_main_v17 (F := Ideal) (ix2 n (0 : Fin 1)) := by
    exact join_left _ _ n
  have hn : (BitVec.ofNat 32 n.val).toNat = n.val := by
    rw [BitVec.toNat_ofNat]; have := n.isLt; omega
  have hw : Scalar.select (IntOp.cmpi .slt (BitVec.ofNat 32 n.val) 0#32) (IntOp.addi (BitVec.ofNat 32 n.val) 1638400#32) (BitVec.ofNat 32 n.val)
      = BitVec.ofNat 32 n.val := wrap_of_lt _ _ (by rw [hn]; have := n.isLt; omega)
  rw [hv, val_main_v17_apply]
  refine (congrArg BitVec.toInt hw).trans ?_
  rw [BitVec.toInt_eq_toNat_of_lt (by rw [hn]; have := n.isLt; omega), hn]

/-- The second index word of row `n` is the n-th target, where it is not negative. -/
theorem word1 (x1 : IVec S16384x100 32) (h : ∀ i, 0 ≤ (x1 i).toInt) (n : Fin 1638400) (b : Fin 16384) (g : Fin 100)
    (hn : n.val = 100 * b.val + g.val) :
    val_main_v19 (F := Ideal) x1 (ix2 n (1 : Fin 2)) = x1 (ix2 b g) := by
  have hv : val_main_v19 (F := Ideal) x1 (ix2 n (1 : Fin 2)) = val_main_v18 (F := Ideal) x1 (ix2 n (0 : Fin 1)) := by
    exact join_right _ _ n
  have ht : val_main_v4 (F := Ideal) x1 (ix1 n) = x1 (ix2 b g) := by
    rw [val_main_v4_apply]
    refine congrArg x1 (funext fun a => Fin.ext ?_)
    have := g.isLt
    fin_cases a
    · show n.val / 100 = b.val; omega
    · show n.val % 100 = g.val; omega
  have hw : Scalar.select (IntOp.cmpi .slt (x1 (ix2 b g)) 0#32) (IntOp.addi (x1 (ix2 b g)) 21#32) (x1 (ix2 b g)) = x1 (ix2 b g) :=
    wrap_of_lt _ _ (by
      have := h (ix2 b g)
      rw [BitVec.toInt_eq_toNat_cond] at this
      have hl := (x1 (ix2 b g)).isLt
      split at this <;> omega)
  rw [hv, val_main_v18_apply]
  refine Eq.trans ?_ hw
  rw [← ht]
  rfl

/-- The scatter's table at row 100·b + g and column k: 1 where target (b, g) is class k, else 0. -/
theorem hot_apply (x1 : IVec S16384x100 32) (h : ∀ i, 0 ≤ (x1 i).toInt) (n : Fin 1638400) (b : Fin 16384) (g : Fin 100)
    (hn : n.val = 100 * b.val + g.val) (k : Fin 21) :
    val_main_v21 (F := Ideal) x1 (ix2 n k)
      = if (x1 (ix2 b g)).toInt = k.val then Ideal.ofBits .f32 0x3F800000#32 else Ideal.ofBits .f32 0x00000000#32 := by
  have hu : ∀ j, val_main_v20 (F := Ideal) j = Ideal.ofBits .f32 0x3F800000#32 := fun j => by rw [val_main_v20_apply]; rfl
  unfold val_main_v21
  by_cases hk : (x1 (ix2 b g)).toInt = k.val
  · rw [if_pos hk]
    exact scatter_set_hit dims _ _ _ _ _ (fun j _ => hu j) (ix1 n)
      ((lands _ n n k).2 ⟨word0 x1 n, by rw [word1 x1 h n b g hn]; exact hk⟩)
  · rw [if_neg hk]
    refine (scatter_set_miss dims _ _ _ _ fun j hj => ?_).trans ((val_main_v5_apply _).trans rfl)
    rw [eq_ix1 j] at hj
    obtain ⟨h0, h1⟩ := (lands _ (j 0) n k).1 hj
    rw [word0 x1 (j 0)] at h0
    have e : (j 0 : Fin 1638400) = n := Fin.ext (by exact_mod_cast h0)
    rw [e, word1 x1 h n b g hn] at h1
    exact hk h1

end Cert.ReferenceIdeal.OneHot
-- ==== Proof.RefValue.lean ====
/-
  What the reference computes at exact arithmetic, under targets that are not negative: the loss of the whole batch.
-/
module

public import proofs.«01_k».proof.Proof.OneHot
public import proofs.«01_k».proof.Proof.Spec

@[expose] public section

noncomputable section

namespace Cert.ReferenceIdeal.RefValue

open Cert.ReferenceIdeal Cert.ReferenceIdeal.Read Idealize.ShloMosaic Idealize.ShloMosaic.TcCoe Idealize.SL.Sem
open Idealize.ShloMosaic.ValueIdx Cert.Loss
open scoped BigOperators

/-- A rank-3 index is its three coordinates. -/
theorem split3 {a b c : ℕ} (i : (⟨3, ![a, b, c]⟩ : Shape).Idx) : ix3 (i 0) (i 1) (i 2) = i := by
  funext q
  fin_cases q <;> rfl

/-- A sum over a rank-3 index is the sum over its three coordinates. -/
theorem sum3 {a b c : ℕ} (f : (⟨3, ![a, b, c]⟩ : Shape).Idx → EReal) :
    ∑ i, f i = ∑ x : Fin a, ∑ y : Fin b, ∑ z : Fin c, f (ix3 x y z) := by
  rw [← Fintype.sum_equiv (⟨fun p => ix3 p.1 p.2.1 p.2.2, fun i => (i 0, i 1, i 2), fun _ => rfl, fun i => split3 i⟩ :
    Fin a × Fin b × Fin c ≃ (⟨3, ![a, b, c]⟩ : Shape).Idx) (fun p => f (ix3 p.1 p.2.1 p.2.2)) f (fun _ => rfl)]
  rw [Fintype.sum_prod_type]
  exact Finset.sum_congr rfl fun x _ => Fintype.sum_prod_type _

/-- The logit of class `k` of group `g`, through the reshape and the cut of the last class. -/
theorem logit (x0 : FVec Ideal S16384x2100 .f32) (b : Fin 16384) (g : Fin 100) (k : Fin 20) :
    val_main_v1 (F := Ideal) x0 (ix3 b g k) = x0 (ix2 b (Loss.col g k)) := by
  rw [val_main_v1_apply, val_main_v0_apply]
  refine congrArg x0 (funext fun a => Fin.ext ?_)
  have := g.isLt; have := k.isLt
  fin_cases a
  · show ((b.val * 100 + g.val) * 21 + k.val) / 2100 = b.val; omega
  · show ((b.val * 100 + g.val) * 21 + k.val) % 2100 = 21 * g.val + k.val; omega

/-- The reference's one-hot target of class `k` of group `g`. -/
theorem target (x1 : IVec S16384x100 32) (h : ∀ i, 0 ≤ (x1 i).toInt) (b : Fin 16384) (g : Fin 100) (k : Fin 20) :
    val_main_v23 (F := Ideal) x1 (ix3 b g k) = if (x1 (ix2 b g)).toInt = (k.val : ℤ) then (1 : EReal) else 0 := by
  have := g.isLt; have := k.isLt; have := b.isLt
  have hi : idx_main_v22 (idx_main_v23 (ix3 b g k)) = ix2 (⟨100 * b.val + g.val, by omega⟩ : Fin 1638400) (⟨k.val, by omega⟩ : Fin 21) := by
    funext a
    apply Fin.ext
    fin_cases a
    · show ((b.val * 100 + g.val) * 20 + k.val) / 20 = 100 * b.val + g.val; omega
    · show ((b.val * 100 + g.val) * 20 + k.val) % 20 = k.val; omega
  rw [val_main_v23_apply, val_main_v22_apply, hi, OneHot.hot_apply x1 h _ b g rfl, zero_bits, one_bits]

/-- The reference's mask at class `k` of group `g`: 0 where the target is the ignored class, else 1. -/
theorem mask (x1 : IVec S16384x100 32) (b : Fin 16384) (g : Fin 100) (k : Fin 20) :
    val_main_v35 (F := Ideal) x1 (ix3 b g k) = if x1 (ix2 b g) = 20#32 then (0 : EReal) else 1 := by
  have hi : idx_main_v33 (idx_main_v35 (ix3 b g k)) = ix2 b g := by
    funext a
    fin_cases a <;> rfl
  rw [val_main_v35_apply, val_main_v34_apply, val_main_v33_apply, hi]
  show (((IntOp.cmpi .ne (x1 (ix2 b g)) 20#32).toNat : ℝ) : EReal) = _
  by_cases h : x1 (ix2 b g) = 20#32
  · rw [if_pos h, h]; show (((0#1 : BitVec 1).toNat : ℝ) : EReal) = 0; simp
  · rw [if_neg h]
    have : IntOp.cmpi .ne (x1 (ix2 b g)) 20#32 = 1#1 := by simp [IntOp.cmpi, bne, beq_eq_false_iff_ne.2 h]
    rw [this]; simp

/-- The reference's masked cross-entropy at class `k` of group `g`. -/
theorem entry (x0 : FVec Ideal S16384x2100 .f32) (x1 : IVec S16384x100 32) (h : ∀ i, 0 ≤ (x1 i).toInt)
    (b : Fin 16384) (g : Fin 100) (k : Fin 20) :
    val_main_v36 (F := Ideal) x0 x1 (ix3 b g k)
      = if x1 (ix2 b g) = 20#32 then 0 else Loss.term (x0 (ix2 b (Loss.col g k))) ((x1 (ix2 b g)).toInt = (k.val : ℤ)) := by
  show ((max (val_main_v1 (F := Ideal) x0 (ix3 b g k)) (Ideal.ofBits .f32 0x00000000#32)
      - val_main_v1 (F := Ideal) x0 (ix3 b g k) * val_main_v23 (F := Ideal) x1 (ix3 b g k))
      + Ideal.log (1 + Ideal.exp (-(max (val_main_v1 (F := Ideal) x0 (ix3 b g k)) (-(val_main_v1 (F := Ideal) x0 (ix3 b g k)))))))
      * val_main_v35 (F := Ideal) x1 (ix3 b g k) = _
  rw [logit, target x1 h, mask, zero_bits]
  generalize x0 (ix2 b (Loss.col g k)) = x
  by_cases ht : x1 (ix2 b g) = 20#32
  · rw [if_pos ht, if_pos ht, mul_zero]
  · rw [if_neg ht, if_neg ht, mul_one]
    unfold Loss.term
    by_cases hk : (x1 (ix2 b g)).toInt = (k.val : ℤ)
    · rw [if_pos hk, if_pos hk, mul_one, sub_eq_add_neg, sub_eq_add_neg, add_right_comm]
    · rw [if_neg hk, if_neg hk, mul_zero, sub_zero, sub_zero]

/-- The reference's result: the loss of the whole batch. -/
theorem value (x0 : FVec Ideal S16384x2100 .f32) (x1 : IVec S16384x100 32) (h : ∀ i, 0 ≤ (x1 i).toInt) (i : S_.Idx) :
    val_main_v37 (F := Ideal) x0 x1 i = Loss.total x0 x1 := by
  rw [val_main_v37_apply]
  show Ideal.ofBits .f32 0x00000000#32 + _ = _
  rw [zero_bits, zero_add]
  refine (sum3 _).trans ?_
  refine Finset.sum_congr rfl fun b _ => Finset.sum_congr rfl fun g _ => ?_
  unfold Loss.group
  rw [Finset.sum_congr rfl fun k _ => entry x0 x1 h b g k]
  by_cases ht : x1 (ix2 b g) = 20#32
  · simp [ht]
  · simp only [if_neg ht]

end Cert.ReferenceIdeal.RefValue
-- ==== Proof.lean ====
/-
  The certificate's proof. The three runs' frames come from the generated modules; the kernel's value is
  `KernelValue.result_eq`, the reference's is `RefValue.value`, and both are the loss of the whole batch, `Loss.total`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The precondition's shape facts. -/
theorem preFacts : Cert.Pre_nonneg.Facts where
  bcast_S_S16384x100 := by decide
  reducesTo_S16384x100_S_d0_1 := by decide
  h_S_ := by decide

/-- The precondition read back: no target is negative. -/
theorem targets_nonneg (x0 : FVec Ideal Cert.Pre_nonneg.S16384x2100 .f32) (x1 : IVec Cert.Pre_nonneg.S16384x100 32)
    (h : letI := preFacts; Cert.Pre_nonneg.fn (F := Ideal) x0 x1 = fun _ => 1#1) (i : Cert.Pre_nonneg.S16384x100.Idx) :
    0 ≤ (x1 i).toInt := by
  letI := preFacts
  haveI : Subsingleton Cert.Pre_nonneg.S_.Idx := ⟨fun a b => funext fun q => q.elim0⟩
  have h1 : IntOp.cmpi .sge (x1 i) 0#32 = 1#1 := Host.reduce_andi_all _ _ _ _ (fun a => a.elim0) (congrFun h fun a => a.elim0) i
  by_contra hn
  have h2 : IntOp.cmpi .sge (x1 i) 0#32 = 0#1 := by
    simp only [IntOp.cmpi, BitVec.sle]
    simp [hn]
  rw [h2] at h1
  exact absurd h1 (by decide)

/-- The reference's run: its arguments end unchanged, and it has no semaphore whose counter could move. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems rfl r.2⟩)
    (Cert.ReferenceIdeal.Value.run (F := Ideal) m g)

/-- Under targets that are not negative, the kernel's result and the reference's both end holding the loss of the whole batch. -/
theorem equal : algebraic_KernelIdeal_ReferenceIdeal_pre_nonneg (hKernelIdeal := Cert.KernelIdeal.Gen.facts)
    (hReferenceIdeal := Cert.ReferenceIdeal.Gen.facts) (hPre_nonneg := preFacts) := by
  intro m g m' g' hpre hagree
  refine ⟨fun c => Cert.KernelIdeal.Value.scalar m c, Cert.KernelIdeal.Value.run m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v37_eq _ _).trans ?_
  rw [(hagree c).1, (hagree c).2]
  funext i
  exact (Cert.ReferenceIdeal.RefValue.value _ _ (targets_nonneg _ _ (hpre c)) i).trans (Cert.KernelIdeal.KernelValue.result_eq m c i).symm

/-- The certificate's claims. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => referenceFrame m g,
    fun m g _ => referenceFrame m g,
    trivial,
    equal⟩

end Cert.Proof

end
